-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_arg0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x224x224x384 : Shape := ⟨4, ![4, 224, 224, 384]⟩
abbrev S384x1152 : Shape := ⟨2, ![384, 1152]⟩
abbrev S1152 : Shape := ⟨1, ![1152]⟩
abbrev S1x32x224x384 : Shape := ⟨4, ![1, 32, 224, 384]⟩

abbrev nBuf : Space → Nat
  | .hbm => 4
  | .vmem => 4
  | .smem => 0
  | _ => 0

abbrev bufTy : (tb : Table) → Fin (tcTables nBuf tb) → BufTy
  | .hbm, ⟨0, _⟩ => ⟨S4x224x224x384, .f32⟩
  | .hbm, ⟨1, _⟩ => ⟨S384x1152, .f32⟩
  | .hbm, ⟨2, _⟩ => ⟨S1152, .f32⟩
  | .hbm, ⟨3, _⟩ => ⟨S4x224x224x384, .f32⟩
  | .local _ .vmem, ⟨0, _⟩ => ⟨S1x32x224x384, .f32⟩
  | .local _ .vmem, ⟨1, _⟩ => ⟨S1x32x224x384, .f32⟩
  | .local _ .vmem, ⟨2, _⟩ => ⟨S1x32x224x384, .f32⟩
  | .local _ .vmem, ⟨3, _⟩ => ⟨S1x32x224x384, .f32⟩
  | _, _ => ⟨S4x224x224x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 7], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x224x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x224x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference.lean ====
abbrev S4x224x224x384 : Shape := ⟨4, ![4, 224, 224, 384]⟩
abbrev S384x1152 : Shape := ⟨2, ![384, 1152]⟩
abbrev S1152 : Shape := ⟨1, ![1152]⟩
abbrev S4x224x224x1152 : Shape := ⟨4, ![4, 224, 224, 1152]⟩
abbrev S1x1x1x1152 : Shape := ⟨4, ![1, 1, 1, 1152]⟩
abbrev S4x50176x3x8x48 : Shape := ⟨5, ![4, 50176, 3, 8, 48]⟩
abbrev S3x4x8x50176x48 : Shape := ⟨5, ![3, 4, 8, 50176, 48]⟩
abbrev S1x4x8x50176x48 : Shape := ⟨5, ![1, 4, 8, 50176, 48]⟩
abbrev S4x8x50176x48 : Shape := ⟨4, ![4, 8, 50176, 48]⟩

abbrev nBuf : Space → Nat
  | .hbm => 15
  | .vmem => 0
  | .smem => 0
  | _ => 0

abbrev bufTy : (tb : Table) → Fin (tcTables nBuf tb) → BufTy
  | .hbm, ⟨0, _⟩ => ⟨S4x224x224x384, .f32⟩
  | .hbm, ⟨1, _⟩ => ⟨S384x1152, .f32⟩
  | .hbm, ⟨2, _⟩ => ⟨S1152, .f32⟩
  | .hbm, ⟨3, _⟩ => ⟨S4x224x224x1152, .f32⟩
  | .hbm, ⟨4, _⟩ => ⟨S1x1x1x1152, .f32⟩
  | .hbm, ⟨5, _⟩ => ⟨S4x224x224x1152, .f32⟩
  | .hbm, ⟨6, _⟩ => ⟨S4x224x224x1152, .f32⟩
  | .hbm, ⟨7, _⟩ => ⟨S4x50176x3x8x48, .f32⟩
  | .hbm, ⟨8, _⟩ => ⟨S3x4x8x50176x48, .f32⟩
  | .hbm, ⟨9, _⟩ => ⟨S1x4x8x50176x48, .f32⟩
  | .hbm, ⟨10, _⟩ => ⟨S4x8x50176x48, .f32⟩
  | .hbm, ⟨11, _⟩ => ⟨S1x4x8x50176x48, .f32⟩
  | .hbm, ⟨12, _⟩ => ⟨S4x8x50176x48, .f32⟩
  | .hbm, ⟨13, _⟩ => ⟨S1x4x8x50176x48, .f32⟩
  | .hbm, ⟨14, _⟩ => ⟨S4x8x50176x48, .f32⟩
  | _, _ => ⟨S4x224x224x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Proof.IdealCopy.lean ====
/- What the tiled copy leaves in its result array. The grid has 4 × 7 points; point (b, h) fetches rows 32h … 32h+31 of image b into a
   staging buffer, the body copies the buffer to the result's staging buffer, and the pipeline writes that back to the same rows of image
   b of the result. So each point writes its own block of the argument, the 28 blocks cover the result, and the result ends as the
   argument. Everything here is for any float values: nothing is computed with. -/
module

public import proofs.«01_k».proof.Proof.Gen.KernelIdeal.Frame
public import Idealize.ShloMosaic.Lib.Pipeline.Value

@[expose] public section

noncomputable section

namespace Cert.KernelIdeal.Copied

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- Device `c`'s first argument as launched, at the type of the result array: what the result is shown to hold. -/
abbrev input (c : Dev nD) : Buf (Elt F) ((c : Thread nD τ).loc main_v0) := m ((c : Thread nD τ).loc main_arg0)

/-- The body's one load and one store are at the origin of the staging buffers. -/
theorem origin : (![0, 0, 0, 0] : Fin 4 → Nat) = fun _ => 0 := by
  funext a; fin_cases a <;> rfl

/-- The body leaves in the result's staging buffer exactly what the argument's staging buffer holds. -/
theorem body_copies (x : Vec F S1x32x224x384 .f32) : out0_1 x = x := by
  unfold out0_1
  rw [View.canon_unit_zero origin, View.ld_unit_zero origin]

/-- Point `t` writes back block `t` of the argument: the two windows have one index map and one block shape. -/
theorem flushed_input (c : Dev nD) (t : Fin cfg0.N) :
    (dats m 0 c).flushed 1 t = ((cfg0.win 1).blk t).view.read (Elt F) (input m c) := by
  show (cfg0.win 1).cut (grid0.coords t) ((dats m 0 c).after 1 t) = _
  rw [after0_1, body_copies]
  rfl

/-- The corner and the extents of point `t`'s block, axis by axis: image `t / 7`, rows from `32 · (t mod 7)`, all columns and channels. -/
theorem block_bounds : ∀ t : Fin grid0.N,
    (win0_1.index t 0 * win0_1.size 0 = t.val / 7 ∧ win0_1.xsize (grid0.coords t) 0 = 1)
    ∧ (win0_1.index t 1 * win0_1.size 1 = 32 * (t.val % 7) ∧ win0_1.xsize (grid0.coords t) 1 = 32)
    ∧ (win0_1.index t 2 * win0_1.size 2 = 0 ∧ win0_1.xsize (grid0.coords t) 2 = 224)
    ∧ (win0_1.index t 3 * win0_1.size 3 = 0 ∧ win0_1.xsize (grid0.coords t) 3 = 384) := by
  decide +kernel

/-- An index of image `t / 7` whose row is among the 32 of `t mod 7` lies in point `t`'s block. -/
theorem mem_block (t : Fin cfg0.N) (i : S4x224x224x384.Idx) (h0 : (i 0 : Nat) = t.val / 7) (h1 : (i 1 : Nat) / 32 = t.val % 7) :
    i ∈ ((cfg0.win 1).blk t).view.set := by
  show i ∈ ((View.whole main_v0).slice (win0_1.rect t)).set
  rw [View.set_slice_whole, Rect.mem_set_unit]
  obtain ⟨⟨o0, n0⟩, ⟨o1, n1⟩, ⟨o2, n2⟩, ⟨o3, n3⟩⟩ := block_bounds t
  have b2 : (i 2 : Nat) < 224 := (i 2).isLt
  have b3 : (i 3 : Nat) < 384 := (i 3).isLt
  have key (a : Fin 4) (o n : Nat) (ho : win0_1.index t a * win0_1.size a = o) (hn : win0_1.xsize (grid0.coords t) a = n)
      (h : o ≤ (i a : Nat) ∧ (i a : Nat) < o + n) :
      win0_1.index t a * win0_1.size a ≤ (i a : Nat)
        ∧ (i a : Nat) < win0_1.index t a * win0_1.size a + win0_1.xsize (grid0.coords t) a := by
    rw [ho, hn]; exact h
  intro a
  match a with
  | ⟨0, _⟩ => exact key 0 _ _ o0 n0 (by omega)
  | ⟨1, _⟩ => exact key 1 _ _ o1 n1 (by omega)
  | ⟨2, _⟩ => exact key 2 _ _ o2 n2 (by omega)
  | ⟨3, _⟩ => exact key 3 _ _ o3 n3 (by omega)

/-- The blocks cover the result: index `i` is in the block of the point numbered `7 · (image) + row / 32`. -/
theorem blocks_cover (i : S4x224x224x384.Idx) :
    ∃ t : Fin cfg0.N, (cfg0.win 1).flush t = true ∧ i ∈ ((cfg0.win 1).blk t).view.set := by
  have b0 : (i 0 : Nat) < 4 := (i 0).isLt
  have b1 : (i 1 : Nat) < 224 := (i 1).isLt
  have hN : cfg0.N = 28 := N_0
  have ht : 7 * (i 0 : Nat) + (i 1 : Nat) / 32 < cfg0.N := by omega
  exact ⟨⟨_, ht⟩, flush0_1 _, mem_block ⟨_, ht⟩ i (by dsimp only; omega) (by dsimp only; omega)⟩

/-- The result array after the last point is the first argument. -/
theorem final_input (c : Dev nD) : (dats m 0 c).arrAt 1 cfg0.N = input m c :=
  (dats m 0 c).arrAt_eq_of_cover 1 (input m c) (fun t _ => flushed_input m c t) blocks_cover

/-- The run: the program ends with its result equal to its first argument and the three arguments unchanged. -/
theorem run : θ_run defs (onTc (τ := τ) (main (F := F))) ⟨m, fun _ => 0, ρ⟩ fun r => ∀ c : Dev nD,
      r.2.mem ((c : Thread nD τ).loc main_v0) = input m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 1).trans (final_input m c), h.2 c⟩)
    (θ_run_and (run_main m ρ) (unchanged m ρ))

end Cert.KernelIdeal.Copied

end
-- ==== Proof.WordCopy.lean ====
/- The kernel on float words. The idealized kernel is the same program text as the kernel, since nothing was rewritten, and both are
   stated for any float values; so what `IdealCopy` says of the one holds of the other, and the run on words is that run read there. -/
module

public import proofs.«01_k».proof.Kernel
public import proofs.«01_k».proof.Proof.Gen.Kernel
public import proofs.«01_k».proof.Proof.IdealCopy

@[expose] public section

noncomputable section

namespace Cert.Kernel.Copied

open Cert.Kernel Idealize.ShloMosaic Idealize.ShloMosaic.TcCoe Idealize.SL.Sem

variable {F : FTy → Type} [FloatOps F]

/-- The two programs have the same kernel body in their tables. -/
theorem same_body : Cert.Kernel.defs₀ (F := F) = Cert.KernelIdeal.defs₀ (F := F) := by
  unfold Cert.Kernel.defs₀ Cert.KernelIdeal.defs₀
  congr 1
  funext ℓ x
  match ℓ, x with
  | 0, (t, s) => rfl

/-- And so the same whole table, with the pipeline around the body. -/
theorem same_defs : Cert.Kernel.defs (F := F) = Cert.KernelIdeal.defs (F := F) :=
  congrArg (fun d => Pipeline.defs (Cert.Kernel.pcfgs (F := F)) d) same_body

/-- The run, for any float values: the kernel ends with its result equal to its first argument and the three arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  rw [same_defs]
  exact Cert.KernelIdeal.Copied.run m ρ

end Cert.Kernel.Copied

end
-- ==== Proof.lean ====
/- The tiled copy against the layer it implements. The layer projects its input to queries, keys and values, splits the heads, uses none
   of them and returns the input; the kernel returns a copy of the input, made block by block. The frames of the two kernels come from
   their generated runs; the frames of the two references, which are host programs without semaphores, from theirs. Both value claims are
   the same fact at two readings of the floats: the kernel's result is its first argument (`IdealCopy`, `WordCopy`), and so is the
   reference's, which is the buffer of that argument itself, left unchanged by the projection. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.IdealCopy
public import proofs.«01_k».proof.Proof.WordCopy
public import Idealize.ShloMosaic.Adequacy
public import Idealize.ShloMosaic.Init

@[expose] public section

noncomputable section

namespace Cert.Proof

open Idealize.ShloMosaic Idealize.SL.Sem

/-- The kernel's frame on words. -/
theorem frame_kernel : Cert.quiescent_Kernel := fun m ρ _ => Cert.Kernel.Gen.frame m ρ

/-- The idealized kernel's frame. -/
theorem frame_kernel_ideal : Cert.quiescent_KernelIdeal := fun m ρ _ => Cert.KernelIdeal.Gen.frame m ρ

/-- The reference's frame on words: its run keeps the arguments, and it has no semaphore. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The idealized reference's frame, in the same way. -/
theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals kernel and reference both end with the first argument as their result. -/
theorem algebraic : Cert.algebraic_KernelIdeal_ReferenceIdeal := fun m ρ m' ρ' _ agree =>
  ⟨fun c => Cert.KernelIdeal.Copied.input m c, Cert.KernelIdeal.Copied.run (F := Ideal) m ρ,
    (θ_run Cert.ReferenceIdeal.defs _ _).mono (fun _ h c => ⟨(h c).1.trans (agree c).1, (h c).2⟩)
      (Cert.ReferenceIdeal.Value.run (F := Ideal) m' ρ')⟩

/-- On float words kernel and reference both end with the first argument, word for word, as their result. -/
theorem bitexact : Cert.bitexact_Kernel_Reference := fun m ρ m' ρ' _ agree =>
  ⟨fun c => m ((c.tc : Thread Cert.Kernel.nD Cert.Kernel.τ).loc Cert.Kernel.main_arg0), Cert.Kernel.Copied.run (F := Bits) m ρ,
    (θ_run Cert.Reference.defs _ _).mono (fun _ h c => ⟨(h c).1.trans (agree c).1, (h c).2⟩)
      (Cert.Reference.Value.run (F := Bits) m' ρ')⟩

/-- Every claim of the certificate: four frames, the idealization (nothing was rewritten), and the two value claims. -/
theorem claim : Cert.Claim :=
  ⟨Cert.Kernel.Gen.facts, Cert.KernelIdeal.Gen.facts, Cert.Reference.Gen.facts, Cert.ReferenceIdeal.Gen.facts,
    frame_kernel, frame_kernel_ideal, frame_reference, frame_reference_ideal, trivial, algebraic, bitexact⟩

end Cert.Proof

end
